-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x320 : Shape := ⟨2, ![1024, 320]⟩
abbrev S1024x256x16 : Shape := ⟨3, ![1024, 256, 16]⟩
abbrev S1024x256 : Shape := ⟨2, ![1024, 256]⟩
abbrev S1024x32x8x1 : Shape := ⟨4, ![1024, 32, 8, 1]⟩
abbrev S1024x64 : Shape := ⟨2, ![1024, 64]⟩
abbrev S1024x64x1x1 : Shape := ⟨4, ![1024, 64, 1, 1]⟩
abbrev S1024x32x8x16 : Shape := ⟨4, ![1024, 32, 8, 16]⟩
abbrev S1024x64x9x16 : Shape := ⟨4, ![1024, 64, 9, 16]⟩
abbrev S16x32x8x1 : Shape := ⟨4, ![16, 32, 8, 1]⟩
abbrev S16x64x1x1 : Shape := ⟨4, ![16, 64, 1, 1]⟩
abbrev S16x32x8x16 : Shape := ⟨4, ![16, 32, 8, 16]⟩
abbrev S16x64x9x16 : Shape := ⟨4, ![16, 64, 9, 16]⟩
abbrev S16x64x1x16 : Shape := ⟨4, ![16, 64, 1, 16]⟩

abbrev nBuf : Space → Nat
  | .hbm => 8
  | .vmem => 8
  | .smem => 0
  | _ => 0

abbrev bufTy : (tb : Table) → Fin (tcTables nBuf tb) → BufTy
  | .hbm, ⟨0, _⟩ => ⟨S1024x320, .f32⟩
  | .hbm, ⟨1, _⟩ => ⟨S1024x256x16, .f32⟩
  | .hbm, ⟨2, _⟩ => ⟨S1024x256, .f32⟩
  | .hbm, ⟨3, _⟩ => ⟨S1024x32x8x1, .f32⟩
  | .hbm, ⟨4, _⟩ => ⟨S1024x64, .f32⟩
  | .hbm, ⟨5, _⟩ => ⟨S1024x64x1x1, .f32⟩
  | .hbm, ⟨6, _⟩ => ⟨S1024x32x8x16, .f32⟩
  | .hbm, ⟨7, _⟩ => ⟨S1024x64x9x16, .f32⟩
  | .local _ .vmem, ⟨0, _⟩ => ⟨S16x32x8x1, .f32⟩
  | .local _ .vmem, ⟨1, _⟩ => ⟨S16x32x8x1, .f32⟩
  | .local _ .vmem, ⟨2, _⟩ => ⟨S16x64x1x1, .f32⟩
  | .local _ .vmem, ⟨3, _⟩ => ⟨S16x64x1x1, .f32⟩
  | .local _ .vmem, ⟨4, _⟩ => ⟨S16x32x8x16, .f32⟩
  | .local _ .vmem, ⟨5, _⟩ => ⟨S16x32x8x16, .f32⟩
  | .local _ .vmem, ⟨6, _⟩ => ⟨S16x64x9x16, .f32⟩
  | .local _ .vmem, ⟨7, _⟩ => ⟨S16x64x9x16, .f32⟩
  | _, _ => ⟨S1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x32x8x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x8x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x9x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024x320 : Shape := ⟨2, ![1024, 320]⟩
abbrev S1024x256x16 : Shape := ⟨3, ![1024, 256, 16]⟩
abbrev S64 : Shape := ⟨1, ![64]⟩
abbrev S512 : Shape := ⟨1, ![512]⟩
abbrev S1024x64 : Shape := ⟨2, ![1024, 64]⟩
abbrev S1024x256 : Shape := ⟨2, ![1024, 256]⟩
abbrev S1024x256x1 : Shape := ⟨3, ![1024, 256, 1]⟩
abbrev S1024x512x16 : Shape := ⟨3, ![1024, 512, 16]⟩
abbrev S_ : Shape := ⟨0, ![]⟩
abbrev S512x1 : Shape := ⟨2, ![512, 1]⟩
abbrev S1 : Shape := ⟨1, ![1]⟩
abbrev S1x1 : Shape := ⟨2, ![1, 1]⟩
abbrev S1024x64x8x16 : Shape := ⟨4, ![1024, 64, 8, 16]⟩
abbrev S64x1 : Shape := ⟨2, ![64, 1]⟩
abbrev S1024x64x1x1 : Shape := ⟨4, ![1024, 64, 1, 1]⟩
abbrev S1024x64x1x16 : Shape := ⟨4, ![1024, 64, 1, 16]⟩
abbrev S1024x64x9x16 : Shape := ⟨4, ![1024, 64, 9, 16]⟩

abbrev nBuf : Space → Nat
  | .hbm => 59
  | .vmem => 0
  | .smem => 0
  | _ => 0

abbrev bufTy : (tb : Table) → Fin (tcTables nBuf tb) → BufTy
  | .hbm, ⟨0, _⟩ => ⟨S1024x320, .f32⟩
  | .hbm, ⟨1, _⟩ => ⟨S1024x256x16, .f32⟩
  | .hbm, ⟨2, _⟩ => ⟨S64, .i32⟩
  | .hbm, ⟨3, _⟩ => ⟨S512, .i32⟩
  | .hbm, ⟨4, _⟩ => ⟨S1024x64, .f32⟩
  | .hbm, ⟨5, _⟩ => ⟨S1024x256, .f32⟩
  | .hbm, ⟨6, _⟩ => ⟨S1024x256x1, .f32⟩
  | .hbm, ⟨7, _⟩ => ⟨S1024x256x16, .f32⟩
  | .hbm, ⟨8, _⟩ => ⟨S1024x512x16, .f32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S512x1, .i32⟩
  | .hbm, ⟨17, _⟩ => ⟨S1, .i32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S1x1, .i32⟩
  | .hbm, ⟨22, _⟩ => ⟨S512x1, .i32⟩
  | .hbm, ⟨23, _⟩ => ⟨S512x1, .i1⟩
  | .hbm, ⟨24, _⟩ => ⟨S512x1, .i1⟩
  | .hbm, ⟨25, _⟩ => ⟨S_, .i1⟩
  | .hbm, ⟨26, _⟩ => ⟨S512, .i1⟩
  | .hbm, ⟨27, _⟩ => ⟨S1024x512x16, .f32⟩
  | .hbm, ⟨28, _⟩ => ⟨S1024x512x16, .i1⟩
  | .hbm, ⟨29, _⟩ => ⟨S_, .f32⟩
  | .hbm, ⟨30, _⟩ => ⟨S1024x512x16, .f32⟩
  | .hbm, ⟨31, _⟩ => ⟨S1024x512x16, .f32⟩
  | .hbm, ⟨32, _⟩ => ⟨S1024x64x8x16, .f32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S1, .i32⟩
  | .hbm, ⟨42, _⟩ => ⟨S_, .i32⟩
  | .hbm, ⟨43, _⟩ => ⟨S64x1, .i32⟩
  | .hbm, ⟨44, _⟩ => ⟨S64x1, .i1⟩
  | .hbm, ⟨45, _⟩ => ⟨S1x1, .i32⟩
  | .hbm, ⟨46, _⟩ => ⟨S64x1, .i32⟩
  | .hbm, ⟨47, _⟩ => ⟨S64x1, .i1⟩
  | .hbm, ⟨48, _⟩ => ⟨S64x1, .i1⟩
  | .hbm, ⟨49, _⟩ => ⟨S_, .i1⟩
  | .hbm, ⟨50, _⟩ => ⟨S64, .i1⟩
  | .hbm, ⟨51, _⟩ => ⟨S1024x64, .f32⟩
  | .hbm, ⟨52, _⟩ => ⟨S1024x64, .i1⟩
  | .hbm, ⟨53, _⟩ => ⟨S_, .f32⟩
  | .hbm, ⟨54, _⟩ => ⟨S1024x64, .f32⟩
  | .hbm, ⟨55, _⟩ => ⟨S1024x64, .f32⟩
  | .hbm, ⟨56, _⟩ => ⟨S1024x64x1x1, .f32⟩
  | .hbm, ⟨57, _⟩ => ⟨S1024x64x1x16, .f32⟩
  | .hbm, ⟨58, _⟩ => ⟨S1024x64x9x16, .f32⟩
  | _, _ => ⟨S1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v7 : Ref sig .tc := ⟨.hbm, 31, rfl⟩
abbrev main_v8 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩

abbrev nD : Nat := 1
abbrev τ : Topo := Topo.v7x

variable {F : FTy → Type} [FloatOps F]
-- ==== Proof.Spec.lean ====
/- What the kernel and the reference are both shown to compute, written once: the path array as a function of the two
   arguments, and one grid point's block of it as a function of the point's three input blocks. -/
module

public import Idealize.ShloMosaic.Lib.Pipeline.Value
public import Idealize.ShloMosaic.Lib.ValueIdxCore

@[expose] public section

noncomputable section

namespace Cert.Path

open Idealize.ShloMosaic Idealize.ShloMosaic.ValueIdx

variable {α : Type}

/-- THE PATH ARRAY. At batch row `b`, step `s`, channel `k` and draw `d`: channel 8 is the time stamp `x[b, s]`; on
    the channels below it the first 32 steps are the observed values `x[b, 64 + 8 s + k]`, the same for every draw, and
    the last 32 steps are the drawn values `y[b, 8 (s - 32) + k, d]`. -/
def path (x : (⟨2, ![1024, 320]⟩ : Shape).Idx → α) (y : (⟨3, ![1024, 256, 16]⟩ : Shape).Idx → α) :
    (⟨4, ![1024, 64, 9, 16]⟩ : Shape).Idx → α := fun i =>
  if hk : (i 2).val < 8 then
    if hs : (i 1).val < 32 then x (ix2 (i 0) ⟨64 + (8 * (i 1).val + (i 2).val), by omega⟩)
    else y (ix3 (i 0) ⟨8 * ((i 1).val - 32) + (i 2).val, by have : (i 1).val < 64 := (i 1).isLt; omega⟩ (i 3))
  else x (ix2 (i 0) ⟨(i 1).val, by have : (i 1).val < 64 := (i 1).isLt; omega⟩)

/-- ONE POINT'S BLOCK of 16 batch rows, from the point's block `p` of observed values, `q` of time stamps and `r` of
    drawn values. -/
def block (p : (⟨4, ![16, 32, 8, 1]⟩ : Shape).Idx → α) (q : (⟨4, ![16, 64, 1, 1]⟩ : Shape).Idx → α)
    (r : (⟨4, ![16, 32, 8, 16]⟩ : Shape).Idx → α) : (⟨4, ![16, 64, 9, 16]⟩ : Shape).Idx → α := fun i =>
  if hk : (i 2).val < 8 then
    if hs : (i 1).val < 32 then p (ix4 (i 0) ⟨(i 1).val, hs⟩ ⟨(i 2).val, hk⟩ 0)
    else r (ix4 (i 0) ⟨(i 1).val - 32, by have : (i 1).val < 64 := (i 1).isLt; omega⟩ ⟨(i 2).val, hk⟩ (i 3))
  else q (ix4 (i 0) (i 1) 0 0)

/-! ## Multi-indices from their coordinates -/

/-- Two multi-indices of two axes with the same coordinates are equal. -/
theorem ext2 {n0 n1 : Nat} {j k : (⟨2, ![n0, n1]⟩ : Shape).Idx} (h0 : (j 0).val = (k 0).val) (h1 : (j 1).val = (k 1).val) :
    j = k :=
  funext fun a => Fin.ext (match a with | ⟨0, _⟩ => h0 | ⟨1, _⟩ => h1)

/-- Two multi-indices of three axes with the same coordinates are equal. -/
theorem ext3 {n0 n1 n2 : Nat} {j k : (⟨3, ![n0, n1, n2]⟩ : Shape).Idx} (h0 : (j 0).val = (k 0).val)
    (h1 : (j 1).val = (k 1).val) (h2 : (j 2).val = (k 2).val) : j = k :=
  funext fun a => Fin.ext (match a with | ⟨0, _⟩ => h0 | ⟨1, _⟩ => h1 | ⟨2, _⟩ => h2)

/-- Two multi-indices of four axes with the same coordinates are equal. -/
theorem ext4 {n0 n1 n2 n3 : Nat} {j k : (⟨4, ![n0, n1, n2, n3]⟩ : Shape).Idx} (h0 : (j 0).val = (k 0).val)
    (h1 : (j 1).val = (k 1).val) (h2 : (j 2).val = (k 2).val) (h3 : (j 3).val = (k 3).val) : j = k :=
  funext fun a => Fin.ext (match a with | ⟨0, _⟩ => h0 | ⟨1, _⟩ => h1 | ⟨2, _⟩ => h2 | ⟨3, _⟩ => h3)

/-! ## The path array, region by region -/

section Path
variable {x : (⟨2, ![1024, 320]⟩ : Shape).Idx → α} {y : (⟨3, ![1024, 256, 16]⟩ : Shape).Idx → α}
  {i : (⟨4, ![1024, 64, 9, 16]⟩ : Shape).Idx}

/-- Channel 8 of the path array is the time stamp of its row and step. -/
theorem path_time (k : (⟨2, ![1024, 320]⟩ : Shape).Idx) (h2 : 8 ≤ (i 2).val) (k0 : (k 0).val = (i 0).val)
    (k1 : (k 1).val = (i 1).val) : path x y i = x k := by
  unfold path
  rw [dif_neg (by omega)]
  exact congrArg x (ext2 k0.symm k1.symm)

/-- Below channel 8 the first 32 steps of the path array are the observed values, 8 channels to a step. -/
theorem path_past (k : (⟨2, ![1024, 320]⟩ : Shape).Idx) (h1 : (i 1).val < 32) (h2 : (i 2).val < 8)
    (k0 : (k 0).val = (i 0).val) (k1 : (k 1).val = 64 + (8 * (i 1).val + (i 2).val)) : path x y i = x k := by
  unfold path
  rw [dif_pos h2, dif_pos h1]
  exact congrArg x (ext2 k0.symm k1.symm)

/-- Below channel 8 the last 32 steps of the path array are the drawn values, 8 channels to a step. -/
theorem path_drawn (k : (⟨3, ![1024, 256, 16]⟩ : Shape).Idx) (h1 : 32 ≤ (i 1).val) (h2 : (i 2).val < 8)
    (k0 : (k 0).val = (i 0).val) (k1 : (k 1).val = 8 * ((i 1).val - 32) + (i 2).val) (k2 : (k 2).val = (i 3).val) :
    path x y i = y k := by
  unfold path
  rw [dif_pos h2, dif_neg (by omega)]
  exact congrArg y (ext3 k0.symm k1.symm k2.symm)

end Path

/-! ## A point's block, region by region -/

section Block
variable {p : (⟨4, ![16, 32, 8, 1]⟩ : Shape).Idx → α} {q : (⟨4, ![16, 64, 1, 1]⟩ : Shape).Idx → α}
  {r : (⟨4, ![16, 32, 8, 16]⟩ : Shape).Idx → α} {i : (⟨4, ![16, 64, 9, 16]⟩ : Shape).Idx}

/-- Channel 8 of a point's block is its time stamps. -/
theorem block_time (k : (⟨4, ![16, 64, 1, 1]⟩ : Shape).Idx) (h2 : 8 ≤ (i 2).val) (k0 : (k 0).val = (i 0).val)
    (k1 : (k 1).val = (i 1).val) : block p q r i = q k := by
  unfold block
  rw [dif_neg (by omega)]
  have b2 : (k 2).val < 1 := (k 2).isLt
  have b3 : (k 3).val < 1 := (k 3).isLt
  exact congrArg q (ext4 k0.symm k1.symm (show 0 = (k 2).val by omega) (show 0 = (k 3).val by omega))

/-- Below channel 8 the first 32 steps of a point's block are its observed values. -/
theorem block_past (k : (⟨4, ![16, 32, 8, 1]⟩ : Shape).Idx) (h1 : (i 1).val < 32) (h2 : (i 2).val < 8)
    (k0 : (k 0).val = (i 0).val) (k1 : (k 1).val = (i 1).val) (k2 : (k 2).val = (i 2).val) : block p q r i = p k := by
  unfold block
  rw [dif_pos h2, dif_pos h1]
  have b3 : (k 3).val < 1 := (k 3).isLt
  exact congrArg p (ext4 k0.symm k1.symm k2.symm (show 0 = (k 3).val by omega))

/-- Below channel 8 the last 32 steps of a point's block are its drawn values. -/
theorem block_drawn (k : (⟨4, ![16, 32, 8, 16]⟩ : Shape).Idx) (h1 : 32 ≤ (i 1).val) (h2 : (i 2).val < 8)
    (k0 : (k 0).val = (i 0).val) (k1 : (k 1).val = (i 1).val - 32) (k2 : (k 2).val = (i 2).val)
    (k3 : (k 3).val = (i 3).val) : block p q r i = r k := by
  unfold block
  rw [dif_pos h2, dif_neg (by omega)]
  exact congrArg r (ext4 k0.symm k1.symm k2.symm k3.symm)

end Block

end Cert.Path

end
-- ==== Proof.Block.lean ====
/- What one grid point computes: its output block is `Cert.Path.block` of its three input blocks. -/
module

public import proofs.«01_k».proof.Proof.Spec
public import proofs.«01_k».proof.Proof.Gen.KernelIdeal.Value
public import Idealize.ShloMosaic.Lib.Pipeline.ValueKit

@[expose] public section

noncomputable section

namespace Cert.KernelIdeal.Block

open Cert.KernelIdeal Cert.KernelIdeal.Gen Idealize.ShloMosaic Idealize.ShloMosaic.TcCoe Idealize.SL.Sem Idealize.ShloMosaic.ValueIdx

variable {F : FTy → Type} [FloatOps F]

/-- The first store's piece spreads the observed values over the 16 draws. -/
theorem pay1_apply (v : S16x32x8x1.Idx → Elt F .f32) (j : S16x32x8x16.Idx) :
    k0_pay1 v j = v (ValueIdx.ix4 (j 0) (j 1) (j 2) 0) := by
  unfold k0_pay1
  pointwise
  exact congrArg v (Cert.Path.ext4 rfl rfl rfl rfl)

/-- The second store's piece is the drawn values as loaded. -/
theorem pay2_apply (v : S16x32x8x16.Idx → Elt F .f32) (j : S16x32x8x16.Idx) : k0_pay2 v j = v j := by
  unfold k0_pay2
  pointwise

/-- The third store's piece spreads the time stamps over the 16 draws. -/
theorem pay3_apply (v : S16x64x1x1.Idx → Elt F .f32) (j : S16x64x1x16.Idx) :
    k0_pay3 v j = v (ValueIdx.ix4 (j 0) (j 1) 0 0) := by
  unfold k0_pay3
  pointwise
  exact congrArg v (Cert.Path.ext4 rfl rfl rfl rfl)

/-- A load of a whole staging buffer, at offset zero and full size, is the buffer's contents. -/
theorem load_whole {s : Shape} (a : Memref sig .tc .vmem s .f32) (h : a.IsWhole) {off : Fin s.rank → Nat}
    (hoff : off = fun _ => 0) (inb : ∀ k, off k + s.size k ≤ s.size k) (x : Vec F s .f32) :
    View.readAt (Elt F) a.view (Rect.unit off s.size inb).toLoadRect (h.unread x) = x := by
  rw [View.readAt_eq_ld, h.read_unread]
  exact View.ld_unit_zero hoff inb x

section Pieces
variable (p : Vec F S16x32x8x1 .f32) (q : Vec F S16x64x1x1 .f32) (r : Vec F S16x32x8x16 .f32)

/-- Under the first store's rectangle the block is the observed values, the same for every draw. -/
theorem block_piece1 (x : S16x32x8x16.Idx) :
    Cert.Path.block p q r ((Rect.unit (s := S16x64x9x16) ![0, 0, 0, 0] ![16, 32, 8, 16] inb_S16x64x9x16_S16x32x8x16_0_0_0_0).emb x)
      = p (ValueIdx.ix4 (x 0) (x 1) (x 2) 0) := by
  have e := ValueKit.rect_emb_unit_val (s := S16x64x9x16) ![0, 0, 0, 0] ![16, 32, 8, 16] inb_S16x64x9x16_S16x32x8x16_0_0_0_0 x
  have e0 := (e 0).trans (Nat.zero_add (x 0).val)
  have e1 := (e 1).trans (Nat.zero_add (x 1).val)
  have e2 := (e 2).trans (Nat.zero_add (x 2).val)
  exact Cert.Path.block_past _ (e1.trans_lt (x 1).isLt) (e2.trans_lt (x 2).isLt) e0.symm e1.symm e2.symm

/-- Under the second store's rectangle the block is the drawn values. -/
theorem block_piece2 (x : S16x32x8x16.Idx) :
    Cert.Path.block p q r ((Rect.unit (s := S16x64x9x16) ![0, 32, 0, 0] ![16, 32, 8, 16] inb_S16x64x9x16_S16x32x8x16_0_32_0_0).emb x) = r x := by
  have e := ValueKit.rect_emb_unit_val (s := S16x64x9x16) ![0, 32, 0, 0] ![16, 32, 8, 16] inb_S16x64x9x16_S16x32x8x16_0_32_0_0 x
  have e0 := (e 0).trans (Nat.zero_add (x 0).val)
  have e1 : _ = 32 + (x 1).val := e 1
  have e2 := (e 2).trans (Nat.zero_add (x 2).val)
  have e3 := (e 3).trans (Nat.zero_add (x 3).val)
  exact Cert.Path.block_drawn x ((Nat.le_add_right 32 _).trans e1.ge) (e2.trans_lt (x 2).isLt) e0.symm (by omega) e2.symm
    e3.symm

/-- Under the third store's rectangle the block is the time stamps, the same for every draw. -/
theorem block_piece3 (x : S16x64x1x16.Idx) :
    Cert.Path.block p q r ((Rect.unit (s := S16x64x9x16) ![0, 0, 8, 0] ![16, 64, 1, 16] inb_S16x64x9x16_S16x64x1x16_0_0_8_0).emb x)
      = q (ValueIdx.ix4 (x 0) (x 1) 0 0) := by
  have e := ValueKit.rect_emb_unit_val (s := S16x64x9x16) ![0, 0, 8, 0] ![16, 64, 1, 16] inb_S16x64x9x16_S16x64x1x16_0_0_8_0 x
  have e0 := (e 0).trans (Nat.zero_add (x 0).val)
  have e1 := (e 1).trans (Nat.zero_add (x 1).val)
  have e2 : _ = 8 + (x 2).val := e 2
  exact Cert.Path.block_time _ ((Nat.le_add_right 8 _).trans e2.ge) e0.symm e1.symm

end Pieces

/-- A grid point's output block is the block of the path array that its three input blocks make. -/
theorem out_eq (c : Dev nD) (i : grid0.Coords) (a1 : Memref sig .tc .vmem S16x32x8x1 .f32) (h1 : a1.IsWhole)
    (a2 : Memref sig .tc .vmem S16x64x1x1 .f32) (h2 : a2.IsWhole) (a3 : Memref sig .tc .vmem S16x32x8x16 .f32) (h3 : a3.IsWhole)
    (a4 : Memref sig .tc .vmem S16x64x9x16 .f32) (h4 : a4.IsWhole)
    (p : Vec F S16x32x8x1 .f32) (q : Vec F S16x64x1x1 .f32) (r : Vec F S16x32x8x16 .f32) :
    out0_A_3 c i a1 h1 a2 h2 a3 h3 a4 h4 p q r = Cert.Path.block p q r := by
  have hz : (![0, 0, 0, 0] : Fin 4 → Nat) = fun _ => 0 := by decide
  unfold out0_A_3
  rw [View.read_writes_junk_eq_canon]
  funext y
  refine View.canon_apply_of_pieces (Cert.Path.block p q r) _ ?_ y (cover0_A_3 c i a1 h1 a2 h2 a3 h3 a4 h4 p q r y)
  unfold kernelRun0_A
  dsimp only
  sl_unfold_words
  refine List.forall_mem_cons.mpr ⟨fun x => ?_, List.forall_mem_cons.mpr ⟨fun x => ?_,
    List.forall_mem_cons.mpr ⟨fun x => ?_, fun _ h => absurd h List.not_mem_nil⟩⟩⟩
  · exact (congrFun (congrArg k0_pay3 (load_whole a2 h2 hz _ q)) x).trans ((pay3_apply q x).trans (block_piece3 p q r x).symm)
  · exact (congrFun (congrArg k0_pay2 (load_whole a3 h3 hz _ r)) x).trans ((pay2_apply r x).trans (block_piece2 p q r x).symm)
  · exact (congrFun (congrArg k0_pay1 (load_whole a1 h1 hz _ p)) x).trans ((pay1_apply p x).trans (block_piece1 p q r x).symm)

end Cert.KernelIdeal.Block

end
-- ==== Proof.Array.lean ====
/- What the result array holds after the kernel's run: the path array of the two arguments. -/
module

public import proofs.«01_k».proof.Proof.Block

@[expose] public section

noncomputable section

namespace Cert.KernelIdeal.Array

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- When the grid starts, the array of observed values holds `x[b, 64 + 8 s + k]` at row `b`, step `s`, channel `k`. -/
theorem entry_past (c : Dev nD) (j : S1024x32x8x1.Idx) (k : S1024x320.Idx) (h0 : (k 0).val = (j 0).val)
    (h1 : (k 1).val = 64 + (8 * (j 1).val + (j 2).val)) :
    V m c main_v1 j = m ((c : Thread nD τ).loc main_arg0) k := by
  entry_read
  have b1 : (j 1).val < 32 := (j 1).isLt
  have b2 : (j 2).val < 8 := (j 2).isLt
  have b3 : (j 3).val < 1 := (j 3).isLt
  refine (shapeCast_apply _ _ j (ValueIdx.ix2 (n0 := 1024) (n1 := 256) (j 0) ⟨8 * (j 1).val + (j 2).val, by omega⟩) ?_).trans
    (extractStridedSlice_apply _ _ _ _ k ?_)
  · rw [Shape.rowMajor_val_two, Shape.rowMajor_val_four]
    show (j 0).val * 256 + (8 * (j 1).val + (j 2).val) = (((j 0).val * 32 + (j 1).val) * 8 + (j 2).val) * 1 + (j 3).val
    omega
  · intro a
    match a with
    | ⟨0, _⟩ => exact h0.trans (Nat.zero_add _).symm
    | ⟨1, _⟩ => exact h1

/-- When the grid starts, the array of time stamps holds `x[b, s]` at row `b`, step `s`. -/
theorem entry_time (c : Dev nD) (j : S1024x64x1x1.Idx) (k : S1024x320.Idx) (h0 : (k 0).val = (j 0).val)
    (h1 : (k 1).val = (j 1).val) : V m c main_v3 j = m ((c : Thread nD τ).loc main_arg0) k := by
  entry_read
  have b2 : (j 2).val < 1 := (j 2).isLt
  have b3 : (j 3).val < 1 := (j 3).isLt
  refine (shapeCast_apply _ _ j (ValueIdx.ix2 (n0 := 1024) (n1 := 64) (j 0) (j 1)) ?_).trans
    (extractStridedSlice_apply _ _ _ _ k ?_)
  · rw [Shape.rowMajor_val_two, Shape.rowMajor_val_four]
    show (j 0).val * 64 + (j 1).val = (((j 0).val * 64 + (j 1).val) * 1 + (j 2).val) * 1 + (j 3).val
    omega
  · intro a
    match a with
    | ⟨0, _⟩ => exact h0.trans (Nat.zero_add _).symm
    | ⟨1, _⟩ => exact h1.trans (Nat.zero_add _).symm

/-- When the grid starts, the array of drawn values holds `y[b, 8 s + k, d]` at row `b`, step `s`, channel `k`, draw `d`. -/
theorem entry_drawn (c : Dev nD) (j : S1024x32x8x16.Idx) (k : S1024x256x16.Idx) (h0 : (k 0).val = (j 0).val)
    (h1 : (k 1).val = 8 * (j 1).val + (j 2).val) (h2 : (k 2).val = (j 3).val) :
    V m c main_v4 j = m ((c : Thread nD τ).loc main_arg1) k := by
  entry_read
  refine shapeCast_apply _ _ j k ?_
  rw [Shape.rowMajor_val_three, Shape.rowMajor_val_four]
  show ((k 0).val * 256 + (k 1).val) * 16 + (k 2).val
    = (((j 0).val * 32 + (j 1).val) * 8 + (j 2).val) * 16 + (j 3).val
  omega

/-! ## Where a point's blocks lie: the point's number on the batch axis, zero on the others -/

/-- The block index of the observed values. -/
theorem index0 : ∀ t : Fin cfg0.N, win0_0.index t = ![t.val, 0, 0, 0] := (by decide +kernel : ∀ t : Fin grid0.N, _)

/-- The block index of the time stamps. -/
theorem index1 : ∀ t : Fin cfg0.N, win0_1.index t = ![t.val, 0, 0, 0] := (by decide +kernel : ∀ t : Fin grid0.N, _)

/-- The block index of the drawn values. -/
theorem index2 : ∀ t : Fin cfg0.N, win0_2.index t = ![t.val, 0, 0, 0] := (by decide +kernel : ∀ t : Fin grid0.N, _)

/-- The block index of the result. -/
theorem index3 : ∀ t : Fin cfg0.N, win0_3.index t = ![t.val, 0, 0, 0] := (by decide +kernel : ∀ t : Fin grid0.N, _)

/-- Point `t`'s block of observed values, at row `b`, step `s`, channel `k`, is `x[16 t + b, 64 + 8 s + k]`. -/
theorem iblk_past (c : Dev nD) (t : Fin cfg0.N) (j : S16x32x8x1.Idx) (k : S1024x320.Idx)
    (h0 : (k 0).val = t.val * 16 + (j 0).val) (h1 : (k 1).val = 64 + (8 * (j 1).val + (j 2).val)) :
    iblk m c 0 t j = m ((c : Thread nD τ).loc main_arg0) k := by
  blk_simp [iblk]
  refine entry_past m c _ k ?_ ?_ <;> blk_simp [index0] <;> assumption

/-- Point `t`'s block of time stamps, at row `b`, step `s`, is `x[16 t + b, s]`. -/
theorem iblk_time (c : Dev nD) (t : Fin cfg0.N) (j : S16x64x1x1.Idx) (k : S1024x320.Idx)
    (h0 : (k 0).val = t.val * 16 + (j 0).val) (h1 : (k 1).val = (j 1).val) :
    iblk m c 1 t j = m ((c : Thread nD τ).loc main_arg0) k := by
  blk_simp [iblk]
  refine entry_time m c _ k ?_ ?_ <;> blk_simp [index1] <;> assumption

/-- Point `t`'s block of drawn values, at row `b`, step `s`, channel `k`, draw `d`, is `y[16 t + b, 8 s + k, d]`. -/
theorem iblk_drawn (c : Dev nD) (t : Fin cfg0.N) (j : S16x32x8x16.Idx) (k : S1024x256x16.Idx)
    (h0 : (k 0).val = t.val * 16 + (j 0).val) (h1 : (k 1).val = 8 * (j 1).val + (j 2).val)
    (h2 : (k 2).val = (j 3).val) : iblk m c 2 t j = m ((c : Thread nD τ).loc main_arg1) k := by
  blk_simp [iblk]
  refine entry_drawn m c _ k ?_ ?_ ?_ <;> blk_simp [index2] <;> assumption

/-- Point `t`'s block of the path array, made from the point's input blocks, is the path array of the two arguments at
    rows `16 t` to `16 t + 15`. -/
theorem block_eq (c : Dev nD) (t : Fin cfg0.N) (y : S16x64x9x16.Idx) (i : S1024x64x9x16.Idx)
    (h0 : (i 0).val = t.val * 16 + (y 0).val) (h1 : (i 1).val = (y 1).val) (h2 : (i 2).val = (y 2).val)
    (h3 : (i 3).val = (y 3).val) :
    Cert.Path.block (iblk m c 0 t) (iblk m c 1 t) (iblk m c 2 t) y
      = Cert.Path.path (m ((c : Thread nD τ).loc main_arg0)) (m ((c : Thread nD τ).loc main_arg1)) i := by
  have b1 : (y 1).val < 64 := (y 1).isLt
  by_cases hk : (y 2).val < 8
  · by_cases hs : (y 1).val < 32
    · let k : S1024x320.Idx := ValueIdx.ix2 (i 0) ⟨64 + (8 * (i 1).val + (i 2).val), by omega⟩
      refine (Cert.Path.block_past (ValueIdx.ix4 (n3 := 1) (y 0) ⟨(y 1).val, hs⟩ ⟨(y 2).val, hk⟩ 0) hs hk rfl rfl rfl).trans
        ((iblk_past m c t _ k h0 ?_).trans (Cert.Path.path_past k (by omega) (by omega) rfl rfl).symm)
      show 64 + (8 * (i 1).val + (i 2).val) = 64 + (8 * (y 1).val + (y 2).val)
      omega
    · let k : S1024x256x16.Idx := ValueIdx.ix3 (i 0) ⟨8 * ((i 1).val - 32) + (i 2).val, by omega⟩ (i 3)
      refine (Cert.Path.block_drawn (ValueIdx.ix4 (y 0) ⟨(y 1).val - 32, by omega⟩ ⟨(y 2).val, hk⟩ (y 3)) (by omega) hk rfl rfl
        rfl rfl).trans ((iblk_drawn m c t _ k h0 ?_ h3).trans (Cert.Path.path_drawn k (by omega) (by omega) rfl rfl rfl).symm)
      show 8 * ((i 1).val - 32) + (i 2).val = 8 * ((y 1).val - 32) + (y 2).val
      omega
  · let k : S1024x320.Idx := ValueIdx.ix2 (i 0) ⟨(i 1).val, by omega⟩
    exact (Cert.Path.block_time (ValueIdx.ix4 (n2 := 1) (n3 := 1) (y 0) (y 1) 0 0) (by omega) rfl rfl).trans
      ((iblk_time m c t _ k h0 h1).trans (Cert.Path.path_time k (by omega) rfl rfl).symm)

/-- After the kernel's run the result array is the path array of the two arguments. -/
theorem result_eq (c : Dev nD) : (dats m 0 c).arrAt 3 cfg0.N
    = Cert.Path.path (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  rw [Cert.KernelIdeal.Block.out_eq]
  refine block_eq m c t y _ ?_ ?_ ?_ ?_ <;> blk_simp [index3]

end Cert.KernelIdeal.Array

end
-- ==== Proof.Lookup.lean ====
/- The reference's two index lookups: each takes the positions 0, 1, …, n − 1 of an axis of length n, in order, so it
   reads back the array it looks up in, and no position is ever out of range. -/
module

public import proofs.«01_k».proof.Proof.Spec
public import proofs.«01_k».proof.Proof.Gen.ReferenceIdeal.Run
public import Idealize.ShloMosaic.Lib.Pipeline.ValueKit

@[expose] public section

noncomputable section

namespace Cert.ReferenceIdeal.Lookup

open Cert.ReferenceIdeal Cert.ReferenceIdeal.Gen Idealize.ShloMosaic Idealize.ShloMosaic.TcCoe Idealize.SL.Sem

variable {α : Type}

/-! ## The positions -/

/-- The positions the reference looks the 512 flattened values up at: 0 to 511 (a negative one would wrap). -/
def pos512 : S512x1.Idx → BitVec 32 :=
  broadcastInDim S512x1 ![0] bcast_S512_S512x1_0 (select (cmpi .slt (iotaInDim S512 32 0) (broadcastInDim S512 ![] bcast_S_S512 (constantI S_ 32 0#32))) (addi (iotaInDim S512 32 0) (broadcastInDim S512 ![] bcast_S_S512 (constantI S_ 32 512#32))) (iotaInDim S512 32 0))

/-- The positions the reference looks the 64 time stamps up at: 0 to 63 (a negative one would wrap). -/
def pos64 : S64x1.Idx → BitVec 32 :=
  broadcastInDim S64x1 ![0] bcast_S64_S64x1_0 (select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0))

/-- No position below 512 wraps. -/
theorem wrap512 : ∀ n : Fin 512, Scalar.select (IntOp.cmpi .slt (BitVec.ofNat 32 n.val) 0#32)
    (IntOp.addi (BitVec.ofNat 32 n.val) 512#32) (BitVec.ofNat 32 n.val) = BitVec.ofNat 32 n.val := by decide +kernel

/-- No position below 64 wraps. -/
theorem wrap64 : ∀ n : Fin 64, Scalar.select (IntOp.cmpi .slt (BitVec.ofNat 32 n.val) 0#32)
    (IntOp.addi (BitVec.ofNat 32 n.val) 64#32) (BitVec.ofNat 32 n.val) = BitVec.ofNat 32 n.val := by decide +kernel

/-- The position at place `n` of 512 is `n`. -/
theorem pos512_apply (j : S512x1.Idx) : pos512 j = BitVec.ofNat 32 (j 0).val := by
  unfold pos512
  refine (broadcastInDim_apply _ _ _ j (ValueIdx.ix1 (j 0)) ?_).trans (wrap512 (j 0))
  intro a
  match a with
  | ⟨0, _⟩ => rfl

/-- The position at place `n` of 64 is `n`. -/
theorem pos64_apply (j : S64x1.Idx) : pos64 j = BitVec.ofNat 32 (j 0).val := by
  unfold pos64
  refine (broadcastInDim_apply _ _ _ j (ValueIdx.ix1 (j 0)) ?_).trans (wrap64 (j 0))
  intro a
  match a with
  | ⟨0, _⟩ => rfl

/-! ## The range checks -/

/-- Whether each of the 512 positions is in range. -/
def ok512 : S512.Idx → BitVec 1 :=
  Host.reduce IntOp.andi (andi (cmpi .sge pos512 (broadcastInDim S512x1 ![] bcast_S_S512x1 (constantI S_ 32 0#32))) (cmpi .sle pos512 (broadcastInDim S512x1 ![0, 1] bcast_S1x1_S512x1_0_1 (broadcastInDim S1x1 ![1] bcast_S1_S1x1_1 (constantI S1 32 511#32))))) (constantI S_ 1 1#1) reducesTo_S512x1_S512_d1 h_S_

/-- Whether each of the 64 positions is in range. -/
def ok64 : S64.Idx → BitVec 1 :=
  Host.reduce IntOp.andi (andi (cmpi .sge pos64 (broadcastInDim S64x1 ![] bcast_S_S64x1 (constantI S_ 32 0#32))) (cmpi .sle pos64 (broadcastInDim S64x1 ![0, 1] bcast_S1x1_S64x1_0_1 (broadcastInDim S1x1 ![1] bcast_S1_S1x1_1 (constantI S1 32 63#32))))) (constantI S_ 1 1#1) reducesTo_S64x1_S64_d1 h_S_

/-- Every `n` below 512 passes both comparisons with the range. -/
theorem range512 : ∀ n : Fin 512, IntOp.andi (IntOp.cmpi .sge (BitVec.ofNat 32 n.val) 0#32)
    (IntOp.cmpi .sle (BitVec.ofNat 32 n.val) 511#32) = 1#1 := by decide +kernel

/-- Every `n` below 64 passes both comparisons with the range. -/
theorem range64 : ∀ n : Fin 64, IntOp.andi (IntOp.cmpi .sge (BitVec.ofNat 32 n.val) 0#32)
    (IntOp.cmpi .sle (BitVec.ofNat 32 n.val) 63#32) = 1#1 := by decide +kernel

/-- The conjunction, from true, of any number of truths is true. -/
theorem fold_true {ι : Type} [DecidableEq ι] (s : Finset ι) : s.fold IntOp.andi 1#1 (fun _ => (1#1 : BitVec 1)) = 1#1 := by
  rw [Finset.fold_const _ (by decide)]
  split
  · rfl
  · decide

/-- All 512 positions are in range. -/
theorem ok512_apply (j : S512.Idx) : ok512 j = 1#1 := by
  unfold ok512
  rw [Host.reduce_eq_fold]
  exact (Finset.fold_congr (g := fun _ => 1#1) fun i _ =>
    (congrArg (fun p => IntOp.andi (IntOp.cmpi .sge p 0#32) (IntOp.cmpi .sle p 511#32)) (pos512_apply i)).trans
      (range512 (i 0))).trans (fold_true _)

/-- All 64 positions are in range. -/
theorem ok64_apply (j : S64.Idx) : ok64 j = 1#1 := by
  unfold ok64
  rw [Host.reduce_eq_fold]
  exact (Finset.fold_congr (g := fun _ => 1#1) fun i _ =>
    (congrArg (fun p => IntOp.andi (IntOp.cmpi .sge p 0#32) (IntOp.cmpi .sle p 63#32)) (pos64_apply i)).trans
      (range64 (i 0))).trans (fold_true _)

/-! ## The lookups -/

/-- A position below 512, read as a signed number and clamped into the range, is itself. -/
theorem clamp512 : ∀ n : Fin 512, min (BitVec.ofNat 32 n.val).toInt.toNat (512 - 1) = n.val := by decide +kernel

/-- A position below 64, read as a signed number and clamped into the range, is itself. -/
theorem clamp64 : ∀ n : Fin 64, min (BitVec.ofNat 32 n.val).toInt.toNat (64 - 1) = n.val := by decide +kernel

/-- Looking the 512 flattened values up at their own positions reads them back. -/
theorem gather512 (x : S1024x512x16.Idx → α) (j : S1024x512x16.Idx) :
    Host.gather gather_S1024x512x16_S512x1_S1024x512x16_02_1_n_n_1_1_1024116 x pos512 j = x j := by
  unfold Host.gather
  refine congrArg x (funext fun a => Fin.ext ?_)
  let d := gather_S1024x512x16_S512x1_S1024x512x16_02_1_n_n_1_1_1024116
  show d.start j pos512 a + d.batchCoord j a + d.offCoord j a = (j a).val
  rw [GatherDims.batchCoord_eq_zero _ _ _ List.not_mem_nil, Nat.add_zero]
  have axes : ∀ a : Fin 3, a = 1 ∨ a = 0 ∨ a = 2 := by decide
  rcases axes a with rfl | rfl | rfl
  · rw [GatherDims.offCoord_eq_zero _ _ _ fun h => ((GatherDims.mem_sKept _ _).mp h).1 (List.mem_singleton.mpr rfl),
      Nat.add_zero]
    unfold GatherDims.start
    rw [dif_pos (show (1 : Fin 3) ∈ d.startIndexMap from List.mem_singleton.mpr rfl), pos512_apply]
    exact clamp512 (j 1)
  · unfold GatherDims.start
    rw [dif_neg (show (0 : Fin 3) ∉ d.startIndexMap from fun h => absurd (List.mem_singleton.mp h) (by decide)), Nat.zero_add]
    rfl
  · unfold GatherDims.start
    rw [dif_neg (show (2 : Fin 3) ∉ d.startIndexMap from fun h => absurd (List.mem_singleton.mp h) (by decide)), Nat.zero_add]
    rfl

/-- Looking the 64 time stamps up at their own positions reads them back. -/
theorem gather64 (x : S1024x64.Idx → α) (j : S1024x64.Idx) :
    Host.gather gather_S1024x64_S64x1_S1024x64_0_1_n_n_1_1_10241 x pos64 j = x j := by
  unfold Host.gather
  refine congrArg x (funext fun a => Fin.ext ?_)
  let d := gather_S1024x64_S64x1_S1024x64_0_1_n_n_1_1_10241
  show d.start j pos64 a + d.batchCoord j a + d.offCoord j a = (j a).val
  rw [GatherDims.batchCoord_eq_zero _ _ _ List.not_mem_nil, Nat.add_zero]
  have axes : ∀ a : Fin 2, a = 1 ∨ a = 0 := by decide
  rcases axes a with rfl | rfl
  · rw [GatherDims.offCoord_eq_zero _ _ _ fun h => ((GatherDims.mem_sKept _ _).mp h).1 (List.mem_singleton.mpr rfl),
      Nat.add_zero]
    unfold GatherDims.start
    rw [dif_pos (show (1 : Fin 2) ∈ d.startIndexMap from List.mem_singleton.mpr rfl), pos64_apply]
    exact clamp64 (j 1)
  · unfold GatherDims.start
    rw [dif_neg (show (0 : Fin 2) ∉ d.startIndexMap from fun h => absurd (List.mem_singleton.mp h) (by decide)), Nat.zero_add]
    rfl

/-- The reference's lookup of the 512 flattened values, with what it would put at a position out of range, is the values. -/
theorem take512 (x z : S1024x512x16.Idx → α) : select (broadcastInDim S1024x512x16 ![1] bcast_S512_S1024x512x16_1 ok512)
    (Host.gather gather_S1024x512x16_S512x1_S1024x512x16_02_1_n_n_1_1_1024116 x pos512) z = x := by
  funext j
  rw [ValueIdx.select_apply, gather512, show broadcastInDim S1024x512x16 ![1] bcast_S512_S1024x512x16_1 ok512 j = 1#1 from ok512_apply _]
  rfl

/-- The reference's lookup of the 64 time stamps, with what it would put at a position out of range, is the stamps. -/
theorem take64 (x z : S1024x64.Idx → α) : select (broadcastInDim S1024x64 ![1] bcast_S64_S1024x64_1 ok64)
    (Host.gather gather_S1024x64_S64x1_S1024x64_0_1_n_n_1_1_10241 x pos64) z = x := by
  funext j
  rw [ValueIdx.select_apply, gather64, show broadcastInDim S1024x64 ![1] bcast_S64_S1024x64_1 ok64 j = 1#1 from ok64_apply _]
  rfl

end Cert.ReferenceIdeal.Lookup

end
-- ==== Proof.RefValue.lean ====
/- What the reference computes: the path array of its two arguments. -/
module

public import proofs.«01_k».proof.Proof.Lookup

@[expose] public section

noncomputable section

namespace Cert.ReferenceIdeal.RefValue

open Cert.ReferenceIdeal Cert.ReferenceIdeal.Gen Cert.ReferenceIdeal.Lookup
open Idealize.ShloMosaic Idealize.ShloMosaic.TcCoe Idealize.SL.Sem

section Values
variable {α : Type} (x : S1024x320.Idx → α) (y : S1024x256x16.Idx → α)

/-- The 512 flattened values of each row and draw: the 256 observed ones, then the 256 drawn ones. -/
def flat : S1024x512x16.Idx → α :=
  concatenate S1024x512x16 1 [⟨S1024x256x16, (broadcastInDim S1024x256x16 ![0, 1, 2] bcast_S1024x256x1_S1024x256x16_0_1_2 (broadcastInDim S1024x256x1 ![0, 1] bcast_S1024x256_S1024x256x1_0_1 (extractStridedSlice S1024x256 ![0, 64] x slices_S1024x320_S1024x256_0_64)))⟩, ⟨S1024x256x16, y⟩] concatenates_S1024x256x16_S1024x256x16_S1024x512x16_d1

/-- The first 256 flattened values are the observed ones, the same for every draw. -/
theorem flat_past (j : S1024x512x16.Idx) (k : S1024x320.Idx) (h : (j 1).val < 256) (k0 : (k 0).val = (j 0).val)
    (k1 : (k 1).val = 64 + (j 1).val) : flat x y j = x k := by
  unfold flat
  refine (concatenate_pair_apply_left (s₁ := S1024x256x16) (s₂ := S1024x256x16) 1 _ _ _ j rfl (ValueIdx.ix3 (n0 := 1024) (n1 := 256) (n2 := 16) (j 0) ⟨(j 1).val, h⟩ (j 2)) ?_).trans
    ((broadcastInDim_apply _ _ _ _ (ValueIdx.ix3 (n0 := 1024) (n1 := 256) (n2 := 1) (j 0) ⟨(j 1).val, h⟩ 0) ?_).trans
    ((broadcastInDim_apply _ _ _ _ (ValueIdx.ix2 (n0 := 1024) (n1 := 256) (j 0) ⟨(j 1).val, h⟩) ?_).trans
    (extractStridedSlice_apply _ _ _ _ k ?_)))
  · intro a
    match a with
    | ⟨0, _⟩ => rfl
    | ⟨1, _⟩ => rfl
    | ⟨2, _⟩ => rfl
  · intro a
    match a with
    | ⟨0, _⟩ => rfl
    | ⟨1, _⟩ => rfl
    | ⟨2, _⟩ => rfl
  · intro a
    match a with
    | ⟨0, _⟩ => rfl
    | ⟨1, _⟩ => rfl
  · intro a
    match a with
    | ⟨0, _⟩ => exact k0.trans (Nat.zero_add _).symm
    | ⟨1, _⟩ => exact k1

/-- The last 256 flattened values are the drawn ones. -/
theorem flat_drawn (j : S1024x512x16.Idx) (k : S1024x256x16.Idx) (h : 256 ≤ (j 1).val) (k0 : (k 0).val = (j 0).val)
    (k1 : (k 1).val = (j 1).val - 256) (k2 : (k 2).val = (j 2).val) : flat x y j = y k := by
  unfold flat
  refine concatenate_pair_apply_right (s₁ := S1024x256x16) (s₂ := S1024x256x16) 1 _ _ _ j rfl rfl k ?_ ?_
  · intro a ha
    match a, ha with
    | ⟨0, _⟩, _ => exact k0
    | ⟨1, _⟩, ha => exact absurd rfl ha
    | ⟨2, _⟩, _ => exact k2
  · show (k 1).val + 256 = (j 1).val
    omega

/-- The time stamps of each row, as one more channel, the same for every draw. -/
def stamps (v : S1024x64.Idx → α) : S1024x64x1x16.Idx → α :=
  broadcastInDim S1024x64x1x16 ![0, 1, 2, 3] bcast_S1024x64x1x1_S1024x64x1x16_0_1_2_3 (broadcastInDim S1024x64x1x1 ![0, 1] bcast_S1024x64_S1024x64x1x1_0_1 v)

/-- The channel of time stamps holds, at row `b` and step `s`, the stamp of that row and step. -/
theorem stamps_apply (v : S1024x64.Idx → α) (j : S1024x64x1x16.Idx) : stamps v j = v (ValueIdx.ix2 (j 0) (j 1)) := by
  unfold stamps
  refine (broadcastInDim_apply _ _ _ j (ValueIdx.ix4 (n0 := 1024) (n1 := 64) (n2 := 1) (n3 := 1) (j 0) (j 1) 0 0) ?_).trans
    (broadcastInDim_apply _ _ _ _ _ ?_)
  · intro a
    match a with
    | ⟨0, _⟩ => rfl
    | ⟨1, _⟩ => rfl
    | ⟨2, _⟩ => rfl
    | ⟨3, _⟩ => rfl
  · intro a
    match a with
    | ⟨0, _⟩ => rfl
    | ⟨1, _⟩ => rfl

/-- The flattened values cut into 64 steps of 8 channels, with the time stamps as a ninth channel: the reference's result
    once its two lookups have read back what they look up. -/
def joined : S1024x64x9x16.Idx → α :=
  concatenate S1024x64x9x16 2 [⟨S1024x64x8x16, shapeCast S1024x64x8x16 (flat x y) shapeCasts_S1024x512x16_S1024x64x8x16⟩, ⟨S1024x64x1x16, stamps (extractStridedSlice S1024x64 ![0, 0] x slices_S1024x320_S1024x64_0_0)⟩] concatenates_S1024x64x8x16_S1024x64x1x16_S1024x64x9x16_d2

/-- Below channel 8 the joined array at step `s`, channel `k` is the flattened value at `8 s + k`. -/
theorem joined_value (i : S1024x64x9x16.Idx) (j : S1024x512x16.Idx) (h : (i 2).val < 8) (j0 : (j 0).val = (i 0).val)
    (j1 : (j 1).val = 8 * (i 1).val + (i 2).val) (j2 : (j 2).val = (i 3).val) : joined x y i = flat x y j := by
  unfold joined
  refine (concatenate_pair_apply_left (s₁ := S1024x64x8x16) (s₂ := S1024x64x1x16) 2 _ _ _ i rfl
    (ValueIdx.ix4 (n0 := 1024) (n1 := 64) (n2 := 8) (n3 := 16) (i 0) (i 1) ⟨(i 2).val, h⟩ (i 3)) ?_).trans
    (shapeCast_apply _ _ _ j ?_)
  · intro a
    match a with
    | ⟨0, _⟩ => rfl
    | ⟨1, _⟩ => rfl
    | ⟨2, _⟩ => rfl
    | ⟨3, _⟩ => rfl
  · rw [Shape.rowMajor_val_three, Shape.rowMajor_val_four]
    show ((j 0).val * 512 + (j 1).val) * 16 + (j 2).val
      = (((i 0).val * 64 + (i 1).val) * 8 + (i 2).val) * 16 + (i 3).val
    omega

/-- Channel 8 of the joined array is the time stamps. -/
theorem joined_time (i : S1024x64x9x16.Idx) (k : S1024x320.Idx) (h : 8 ≤ (i 2).val) (k0 : (k 0).val = (i 0).val)
    (k1 : (k 1).val = (i 1).val) : joined x y i = x k := by
  unfold joined
  have b2 : (i 2).val < 9 := (i 2).isLt
  refine (concatenate_pair_apply_right (s₁ := S1024x64x8x16) (s₂ := S1024x64x1x16) 2 _ _ _ i rfl rfl
    (ValueIdx.ix4 (n0 := 1024) (n1 := 64) (n2 := 1) (n3 := 16) (i 0) (i 1) 0 (i 3)) ?_ ?_).trans
    ((stamps_apply _ _).trans (extractStridedSlice_apply _ _ _ _ k ?_))
  · intro a ha
    match a, ha with
    | ⟨0, _⟩, _ => rfl
    | ⟨1, _⟩, _ => rfl
    | ⟨2, _⟩, ha => exact absurd rfl ha
    | ⟨3, _⟩, _ => rfl
  · show 0 + 8 = (i 2).val
    omega
  · intro a
    match a with
    | ⟨0, _⟩ => exact k0.trans (Nat.zero_add _).symm
    | ⟨1, _⟩ => exact k1.trans (Nat.zero_add _).symm

/-- The joined array is the path array. -/
theorem joined_eq : joined x y = Cert.Path.path x y := by
  funext i
  have b1 : (i 1).val < 64 := (i 1).isLt
  by_cases hk : (i 2).val < 8
  · let j : S1024x512x16.Idx := ValueIdx.ix3 (i 0) ⟨8 * (i 1).val + (i 2).val, by omega⟩ (i 3)
    have hj : (j 1).val = 8 * (i 1).val + (i 2).val := rfl
    refine (joined_value x y i j hk rfl rfl rfl).trans ?_
    by_cases hs : (i 1).val < 32
    · let k : S1024x320.Idx := ValueIdx.ix2 (i 0) ⟨64 + (8 * (i 1).val + (i 2).val), by omega⟩
      exact (flat_past x y j k (by omega) rfl rfl).trans (Cert.Path.path_past k hs hk rfl rfl).symm
    · let k : S1024x256x16.Idx := ValueIdx.ix3 (i 0) ⟨8 * ((i 1).val - 32) + (i 2).val, by omega⟩ (i 3)
      refine (flat_drawn x y j k (by omega) rfl ?_ rfl).trans (Cert.Path.path_drawn k (by omega) hk rfl rfl rfl).symm
      show 8 * ((i 1).val - 32) + (i 2).val = 8 * (i 1).val + (i 2).val - 256
      omega
  · let k : S1024x320.Idx := ValueIdx.ix2 (i 0) ⟨(i 1).val, by omega⟩
    exact (joined_time x y i k (by omega) rfl rfl).trans (Cert.Path.path_time k (by omega) rfl rfl).symm

/-- The joined array as the reference spells it: each part through its lookup, `z` and `w` standing at positions out of
    range. -/
def looked (z : S1024x512x16.Idx → α) (w : S1024x64.Idx → α) : S1024x64x9x16.Idx → α :=
  concatenate S1024x64x9x16 2 [⟨S1024x64x8x16, shapeCast S1024x64x8x16 (select (broadcastInDim S1024x512x16 ![1] bcast_S512_S1024x512x16_1 ok512) (Host.gather gather_S1024x512x16_S512x1_S1024x512x16_02_1_n_n_1_1_1024116 (flat x y) pos512) z) shapeCasts_S1024x512x16_S1024x64x8x16⟩, ⟨S1024x64x1x16, stamps (select (broadcastInDim S1024x64 ![1] bcast_S64_S1024x64_1 ok64) (Host.gather gather_S1024x64_S64x1_S1024x64_0_1_n_n_1_1_10241 (extractStridedSlice S1024x64 ![0, 0] x slices_S1024x320_S1024x64_0_0) pos64) w)⟩] concatenates_S1024x64x8x16_S1024x64x1x16_S1024x64x9x16_d2

/-- Nothing is out of range, so the lookups change nothing: the reference's array is the path array. -/
theorem looked_eq (z : S1024x512x16.Idx → α) (w : S1024x64.Idx → α) : looked x y z w = Cert.Path.path x y := by
  refine Eq.trans ?_ (joined_eq x y)
  unfold looked joined
  rw [take512, take64]

end Values

variable {F : FTy → Type} [FloatOps F]

/-- The reference's run ends with the path array of its two arguments in its result, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
        = Cert.Path.path (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ReferenceIdeal.Value.run m ρ)
  exact looked_eq (m ((c.tc : Thread nD τ).loc main_arg0)) (m ((c.tc : Thread nD τ).loc main_arg1))
    (broadcastInDim S1024x512x16 ![] bcast_S_S1024x512x16 (constant (F := F) S_ .f32 0x7FC00000#32))
    (broadcastInDim S1024x64 ![] bcast_S_S1024x64 (constant (F := F) S_ .f32 0x7FC00000#32))

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The ideal kernel's run ends with the path array of its two arguments in its result, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run Cert.KernelIdeal.defs (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v5)
          = Cert.Path.path (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1) :=
  (θ_run Cert.KernelIdeal.defs _ _).mono
    (fun _ h c => ⟨(h c).1.trans (Cert.KernelIdeal.Array.result_eq m c), (h c).2⟩)
    (Cert.KernelIdeal.Value.run_blocks (F := Ideal) m ρ)

/-- From equal arguments the ideal kernel and the ideal reference end with the same result: the path array. -/
theorem algebraic : Cert.algebraic_KernelIdeal_ReferenceIdeal := fun m ρ m' ρ' _ harg =>
  ⟨fun c => Cert.Path.path (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    kernel_run m ρ,
    (θ_run Cert.ReferenceIdeal.defs _ _).mono
      (fun _ h c => ⟨(h c).1.trans (by rw [(harg c).1, (harg c).2]), (h c).2⟩)
      (Cert.ReferenceIdeal.RefValue.run (F := Ideal) m' ρ')⟩

/-- The reference's run ends with its arguments as launched and every semaphore counter at zero. -/
theorem quiescent_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.RefValue.run (F := Ideal) m ρ)

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
